-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3584 : Shape := ⟨3, ![1, 256, 3584]⟩
abbrev S1x256x56 : Shape := ⟨3, ![1, 256, 56]⟩
abbrev S3584x18432 : Shape := ⟨2, ![3584, 18432]⟩
abbrev S56x18432 : Shape := ⟨2, ![56, 18432]⟩
abbrev S256x3584 : Shape := ⟨2, ![256, 3584]⟩
abbrev S256x56 : Shape := ⟨2, ![256, 56]⟩
abbrev S256x18432 : Shape := ⟨2, ![256, 18432]⟩
abbrev S3584x512 : Shape := ⟨2, ![3584, 512]⟩
abbrev S56x512 : Shape := ⟨2, ![56, 512]⟩
abbrev S256x512 : Shape := ⟨2, ![256, 512]⟩
abbrev S256x7168 : Shape := ⟨2, ![256, 7168]⟩
abbrev S64x128 : Shape := ⟨2, ![64, 128]⟩
abbrev S256x128 : Shape := ⟨2, ![256, 128]⟩
abbrev S64x128x1 : Shape := ⟨3, ![64, 128, 1]⟩
abbrev S256x1 : Shape := ⟨2, ![256, 1]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S1x256x3584, .i8⟩
  | .hbm, ⟨1, _⟩ => ⟨S1x256x56, .f32⟩
  | .hbm, ⟨2, _⟩ => ⟨S1x256x56, .i8⟩
  | .hbm, ⟨3, _⟩ => ⟨S3584x18432, .i8⟩
  | .hbm, ⟨4, _⟩ => ⟨S56x18432, .f32⟩
  | .hbm, ⟨5, _⟩ => ⟨S256x3584, .i8⟩
  | .hbm, ⟨6, _⟩ => ⟨S256x56, .f32⟩
  | .hbm, ⟨7, _⟩ => ⟨S256x56, .i8⟩
  | .hbm, ⟨8, _⟩ => ⟨S256x18432, .bf16⟩
  | .local _ .vmem, ⟨0, _⟩ => ⟨S256x3584, .i8⟩
  | .local _ .vmem, ⟨1, _⟩ => ⟨S256x56, .f32⟩
  | .local _ .vmem, ⟨2, _⟩ => ⟨S256x56, .i8⟩
  | .local _ .vmem, ⟨3, _⟩ => ⟨S3584x512, .i8⟩
  | .local _ .vmem, ⟨4, _⟩ => ⟨S3584x512, .i8⟩
  | .local _ .vmem, ⟨5, _⟩ => ⟨S56x512, .f32⟩
  | .local _ .vmem, ⟨6, _⟩ => ⟨S56x512, .f32⟩
  | .local _ .vmem, ⟨7, _⟩ => ⟨S256x512, .bf16⟩
  | .local _ .vmem, ⟨8, _⟩ => ⟨S256x512, .bf16⟩
  | .local _ .vmem, ⟨9, _⟩ => ⟨S256x7168, .bf16⟩
  | _, _ => ⟨S1x256x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x56 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x3584 : Shape := ⟨3, ![1, 256, 3584]⟩
abbrev S1x256x56 : Shape := ⟨3, ![1, 256, 56]⟩
abbrev S3584x18432 : Shape := ⟨2, ![3584, 18432]⟩
abbrev S56x18432 : Shape := ⟨2, ![56, 18432]⟩
abbrev S_ : Shape := ⟨0, ![]⟩
abbrev S1x256x56x64 : Shape := ⟨4, ![1, 256, 56, 64]⟩
abbrev S1x256x56x1 : Shape := ⟨4, ![1, 256, 56, 1]⟩
abbrev S56x64x18432 : Shape := ⟨3, ![56, 64, 18432]⟩
abbrev S56x1x18432 : Shape := ⟨3, ![56, 1, 18432]⟩
abbrev S1x256x18432 : Shape := ⟨3, ![1, 256, 18432]⟩
abbrev S256x18432 : Shape := ⟨2, ![256, 18432]⟩

abbrev nBuf : Space → Nat
  | .hbm => 74
  | .vmem => 0
  | .smem => 0
  | _ => 0

abbrev bufTy : (tb : Table) → Fin (tcTables nBuf tb) → BufTy
  | .hbm, ⟨0, _⟩ => ⟨S1x256x3584, .i8⟩
  | .hbm, ⟨1, _⟩ => ⟨S1x256x56, .f32⟩
  | .hbm, ⟨2, _⟩ => ⟨S1x256x56, .i8⟩
  | .hbm, ⟨3, _⟩ => ⟨S3584x18432, .i8⟩
  | .hbm, ⟨4, _⟩ => ⟨S56x18432, .f32⟩
  | .hbm, ⟨5, _⟩ => ⟨S1x256x3584, .i32⟩
  | .hbm, ⟨6, _⟩ => ⟨S_, .i32⟩
  | .hbm, ⟨7, _⟩ => ⟨S1x256x3584, .i32⟩
  | .hbm, ⟨8, _⟩ => ⟨S1x256x3584, .i32⟩
  | .hbm, ⟨9, _⟩ => ⟨S1x256x56x64, .i32⟩
  | .hbm, ⟨10, _⟩ => ⟨S1x256x56, .i32⟩
  | .hbm, ⟨11, _⟩ => ⟨S1x256x56x1, .i32⟩
  | .hbm, ⟨12, _⟩ => ⟨S1x256x56x64, .i32⟩
  | .hbm, ⟨13, _⟩ => ⟨S1x256x56x64, .i32⟩
  | .hbm, ⟨14, _⟩ => ⟨S1x256x56x64, .bf16⟩
  | .hbm, ⟨15, _⟩ => ⟨S1x256x56, .bf16⟩
  | .hbm, ⟨16, _⟩ => ⟨S1x256x56x1, .bf16⟩
  | .hbm, ⟨17, _⟩ => ⟨S1x256x56x64, .bf16⟩
  | .hbm, ⟨18, _⟩ => ⟨S1x256x56x64, .bf16⟩
  | .hbm, ⟨19, _⟩ => ⟨S1x256x3584, .bf16⟩
  | .hbm, ⟨20, _⟩ => ⟨S_, .i32⟩
  | .hbm, ⟨21, _⟩ => ⟨S1x256x3584, .i32⟩
  | .hbm, ⟨22, _⟩ => ⟨S1x256x3584, .i32⟩
  | .hbm, ⟨23, _⟩ => ⟨S1x256x56x64, .i32⟩
  | .hbm, ⟨24, _⟩ => ⟨S1x256x56, .i32⟩
  | .hbm, ⟨25, _⟩ => ⟨S1x256x56x1, .i32⟩
  | .hbm, ⟨26, _⟩ => ⟨S1x256x56x64, .i32⟩
  | .hbm, ⟨27, _⟩ => ⟨S1x256x56x64, .i32⟩
  | .hbm, ⟨28, _⟩ => ⟨S1x256x56x64, .bf16⟩
  | .hbm, ⟨29, _⟩ => ⟨S1x256x56, .bf16⟩
  | .hbm, ⟨30, _⟩ => ⟨S1x256x56x1, .bf16⟩
  | .hbm, ⟨31, _⟩ => ⟨S1x256x56x64, .bf16⟩
  | .hbm, ⟨32, _⟩ => ⟨S1x256x56x64, .bf16⟩
  | .hbm, ⟨33, _⟩ => ⟨S1x256x3584, .bf16⟩
  | .hbm, ⟨34, _⟩ => ⟨S3584x18432, .i32⟩
  | .hbm, ⟨35, _⟩ => ⟨S_, .i32⟩
  | .hbm, ⟨36, _⟩ => ⟨S3584x18432, .i32⟩
  | .hbm, ⟨37, _⟩ => ⟨S3584x18432, .i32⟩
  | .hbm, ⟨38, _⟩ => ⟨S_, .i32⟩
  | .hbm, ⟨39, _⟩ => ⟨S3584x18432, .i32⟩
  | .hbm, ⟨40, _⟩ => ⟨S3584x18432, .i1⟩
  | .hbm, ⟨41, _⟩ => ⟨S_, .i32⟩
  | .hbm, ⟨42, _⟩ => ⟨S3584x18432, .i32⟩
  | .hbm, ⟨43, _⟩ => ⟨S3584x18432, .i32⟩
  | .hbm, ⟨44, _⟩ => ⟨S3584x18432, .i32⟩
  | .hbm, ⟨45, _⟩ => ⟨S3584x18432, .bf16⟩
  | .hbm, ⟨46, _⟩ => ⟨S56x64x18432, .bf16⟩
  | .hbm, ⟨47, _⟩ => ⟨S56x18432, .bf16⟩
  | .hbm, ⟨48, _⟩ => ⟨S56x1x18432, .bf16⟩
  | .hbm, ⟨49, _⟩ => ⟨S56x64x18432, .bf16⟩
  | .hbm, ⟨50, _⟩ => ⟨S56x64x18432, .bf16⟩
  | .hbm, ⟨51, _⟩ => ⟨S3584x18432, .bf16⟩
  | .hbm, ⟨52, _⟩ => ⟨S_, .i32⟩
  | .hbm, ⟨53, _⟩ => ⟨S3584x18432, .i32⟩
  | .hbm, ⟨54, _⟩ => ⟨S3584x18432, .i32⟩
  | .hbm, ⟨55, _⟩ => ⟨S_, .i32⟩
  | .hbm, ⟨56, _⟩ => ⟨S3584x18432, .i32⟩
  | .hbm, ⟨57, _⟩ => ⟨S3584x18432, .i1⟩
  | .hbm, ⟨58, _⟩ => ⟨S_, .i32⟩
  | .hbm, ⟨59, _⟩ => ⟨S3584x18432, .i32⟩
  | .hbm, ⟨60, _⟩ => ⟨S3584x18432, .i32⟩
  | .hbm, ⟨61, _⟩ => ⟨S3584x18432, .i32⟩
  | .hbm, ⟨62, _⟩ => ⟨S3584x18432, .bf16⟩
  | .hbm, ⟨63, _⟩ => ⟨S56x64x18432, .bf16⟩
  | .hbm, ⟨64, _⟩ => ⟨S56x18432, .bf16⟩
  | .hbm, ⟨65, _⟩ => ⟨S56x1x18432, .bf16⟩
  | .hbm, ⟨66, _⟩ => ⟨S56x64x18432, .bf16⟩
  | .hbm, ⟨67, _⟩ => ⟨S56x64x18432, .bf16⟩
  | .hbm, ⟨68, _⟩ => ⟨S3584x18432, .bf16⟩
  | .hbm, ⟨69, _⟩ => ⟨S1x256x18432, .f32⟩
  | .hbm, ⟨70, _⟩ => ⟨S1x256x18432, .f32⟩
  | .hbm, ⟨71, _⟩ => ⟨S1x256x18432, .f32⟩
  | .hbm, ⟨72, _⟩ => ⟨S1x256x18432, .bf16⟩
  | .hbm, ⟨73, _⟩ => ⟨S256x18432, .bf16⟩
  | _, _ => ⟨S1x256x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Proof.Slab.lean ====
/-
  One slab of 128 activation columns, as the kernel unpacks it, and one tile of 128 weight rows, as the kernel unpacks
  it: each as one term, and what each holds at an index over the extended reals.
-/
module

public import proofs.«01_k».proof.Proof.Gen.KernelIdeal.Skeleton
public import Idealize.ShloMosaic.Lib.BitcastFour
public import Idealize.ShloMosaic.Lib.Pointwise.Tactic
public import Idealize.ShloMosaic.Lib.Pointwise.Reshape
public import Idealize.ShloMosaic.Lib.Pointwise.Sums

@[expose] public section

set_option maxRecDepth 16384

noncomputable section

namespace Cert.KernelIdeal.Slab

open Cert.KernelIdeal Cert.KernelIdeal.Gen Idealize.ShloMosaic

variable {F : FTy → Type} [FloatOps F]

/-- The lane number of every element. -/
def lane : IVec S64x128 32 := iota .tc S64x128 32 [1] iota_S64x128_d1_w32

/-- Half the lane number, rounded down, as the kernel computes it. -/
def half : IVec S64x128 32 :=
  select
    (andi
      (cmpi .ne
        (subi (extui 32 (cmpi .sgt lane (broadcast S64x128 0#32)) natLt_1_32)
          (extui 32 (cmpi .slt lane (broadcast S64x128 0#32)) natLt_1_32))
        (broadcast S64x128
          (Scalar.subi (Scalar.extui (Scalar.cmpi .sgt 2#32 0#32)) (Scalar.extui (Scalar.cmpi .slt 2#32 0#32)))))
      (cmpi .ne (remsi lane (broadcast S64x128 2#32)) (broadcast S64x128 0#32)))
    (subi (divsi lane (broadcast S64x128 2#32)) (broadcast S64x128 1#32))
    (divsi lane (broadcast S64x128 2#32))

/-- The source lane of every element: half the lane number, past the first `off` lanes. -/
def source (off : BitVec 32) : IVec S64x128 32 :=
  select (cmpi .slt (addi (broadcast S64x128 off) half) (broadcast S64x128 0#32))
    (addi (addi (broadcast S64x128 off) half) (broadcast S64x128 128#32))
    (addi (broadcast S64x128 off) half)

/-- The amount every gathered word is shifted by: nothing at an even lane, four bits at an odd one. -/
def amount : IVec S64x128 32 := muli (andi lane (broadcast S64x128 1#32)) (broadcast S64x128 4#32)

/-- The four-bit codes of one slab, one byte each: packed bytes `off`, `off + 1`, … of the block of 128, low half of each first. -/
def codes (off : BitVec 32) (x : IVec S256x128 8) : IVec S256x128 8 :=
  bitcast S256x128 8
    (andi
      (shrui
        (dynamicGather 1
          (bitcast S64x128 32 (shapeCast S256x128 x shapeCasts_S256x128_S256x128) bitcasts_S256x128_w8_S64x128_w32)
          (shapeCast S64x128 (shapeCast S64x128x1 (source off) shapeCasts_S64x128_S64x128x1) shapeCasts_S64x128x1_S64x128))
        amount)
      (broadcast S64x128 252645135#32))
    bitcasts_S64x128_w32_S256x128_w8

/-- One slab of activations: the codes less the group's zero point, times the group's scale. -/
def slab (off : BitVec 32) (x : Vec F S256x128 .i8) (sc : Vec F S256x1 .f32) (z : Vec F S256x1 .i8) : FVec F S256x128 .bf16 :=
  shapeCast S256x128
    (mulf
      (subf (sitofp .bf16 (codes off x))
        (broadcastTo S256x128
          (truncf .bf16 (uitofp .f32 (shapeCast S256x1 (z : IVec S256x1 8) shapeCasts_S256x1_S256x1)) bitsLt_bf16_f32)
          broadcasts_S256x1_S256x128))
      (broadcastTo S256x128 (truncf .bf16 (shapeCast S256x1 (sc : FVec F S256x1 .f32) shapeCasts_S256x1_S256x1) bitsLt_bf16_f32)
        broadcasts_S256x1_S256x128))
    shapeCasts_S256x128_S256x128

/-- The first slab the kernel stores is `slab` at offset 0: a check that the term is the kernel's. -/
theorem slab_first (x : Vec F S256x128 .i8) (sc : Vec F S256x1 .f32) (z : Vec F S256x1 .i8) :
    k0_pay5 (k0_pay4 x) sc z = slab 0#32 x sc z := rfl

/-! ## The slab at an index -/

/-- The source lane of lane `l` at offset 0 is `l / 2`. -/
theorem source_zero (a : Fin 64) (l : Fin 128) : source 0#32 (ix2 a l) = BitVec.ofNat 32 (l.val / 2) := by
  unfold source half lane
  pointwise
  revert l
  decide +kernel

/-- The source lane of lane `l` at offset 64 is `64 + l / 2`. -/
theorem source_half (a : Fin 64) (l : Fin 128) : source 64#32 (ix2 a l) = BitVec.ofNat 32 (64 + l.val / 2) := by
  unfold source half lane
  pointwise
  revert l
  decide +kernel

/-- The shift at lane `l` is four times its lowest bit. -/
theorem amount_apply (a : Fin 64) (l : Fin 128) : amount (ix2 a l) = BitVec.ofNat 32 (4 * (l.val % 2)) := by
  unfold amount lane
  pointwise
  revert l
  decide +kernel

/-- The word gathered at row `a`, lane `l`, shifted and masked: the packed word at source lane `p`, its bits moved down by
    four when `l` is odd, the low half of every byte kept. -/
theorem word_apply (off : BitVec 32) (w : IVec S64x128 32) (a : Fin 64) (l : Fin 128) (p : Fin 128)
    (hp : source off (ix2 a l) = BitVec.ofNat 32 p.val) :
    andi (shrui (dynamicGather 1 w
        (shapeCast S64x128 (shapeCast S64x128x1 (source off) shapeCasts_S64x128_S64x128x1) shapeCasts_S64x128x1_S64x128))
        amount) (broadcast S64x128 252645135#32) (ix2 a l)
      = (w (ix2 a p) >>> (4 * (l.val % 2))) &&& 252645135#32 := by
  have hs : shapeCast S64x128 (shapeCast S64x128x1 (source off) shapeCasts_S64x128_S64x128x1) shapeCasts_S64x128x1_S64x128
      = source off := by
    rw [shapeCast_comp, shapeCast_id]
  have hg : dynamicGather 1 w (source off) (ix2 a l) = w (ix2 a p) := by
    unfold dynamicGather
    congr 1
    funext b
    match b with
    | ⟨0, _⟩ => rfl
    | ⟨1, _⟩ =>
      apply Fin.ext
      show (source off (ix2 a l)).toNat % 128 = p.val
      rw [hp, BitVec.toNat_ofNat]
      have := p.isLt
      omega
  rw [hs]
  show IntOp.andi (IntOp.shrui .vector (dynamicGather 1 w (source off) (ix2 a l)) (amount (ix2 a l))) 252645135#32 = _
  rw [hg, amount_apply]
  have h2 : l.val % 2 = 0 ∨ l.val % 2 = 1 := by omega
  rcases h2 with h | h <;> rw [h] <;> rfl

/-- Bit `q` of the mask that keeps the low half of every byte. -/
theorem mask_getLsbD (q : Nat) (hq : q < 32) : (252645135#32).getLsbD q = decide (q % 8 < 4) := by
  have : ∀ q : Fin 32, (252645135#32).getLsbD q.val = decide (q.val % 8 < 4) := by decide +kernel
  exact this ⟨q, hq⟩

/-- The code at row `r`, lane `l`: the low or the high half, by `l`'s lowest bit, of the packed byte at source lane `p`. -/
theorem codes_apply (off : BitVec 32) (x : IVec S256x128 8) (r : Fin 256) (l : Fin 128) (p : Fin 128)
    (hp : ∀ a : Fin 64, source off (ix2 a l) = BitVec.ofNat 32 p.val) :
    codes off x (ix2 r l) = (x (ix2 r p) >>> (4 * (l.val % 2))) &&& 15#8 := by
  have hr := r.isLt
  apply BitVec.eq_of_getLsbD_eq
  intro q hq
  unfold codes
  rw [bitcast_getLsbD _ _ _ q hq (by decide)]
  have hrow : Shape.row S256x128 (ix2 r l) = r.val := rfl
  have hidx : ∀ (P : Nat) (hP : P = r.val / 4) (h0 : _),
      (bitcasts_S64x128_w32_S256x128_w8).srcIdx (ix2 r l) P h0 = (ix2 (⟨r.val / 4, by omega⟩ : Fin 64) l : S64x128.Idx) := by
    intro P hP h0
    funext b
    match b with
    | ⟨0, _⟩ => exact Fin.ext ((Shape.Bitcasts.srcIdx_row _ _ _ _ ⟨0, by decide⟩ rfl).trans hP)
    | ⟨1, _⟩ => exact Fin.ext (Shape.Bitcasts.srcIdx_other _ _ _ _ ⟨1, by decide⟩ (by decide))
  rw [hidx _ (by rw [hrow]; omega), hrow, word_apply off _ _ l p (hp _)]
  have hx : shapeCast S256x128 x shapeCasts_S256x128_S256x128 = x := shapeCast_id _ _
  rw [hx, BitVec.getLsbD_and, BitVec.getLsbD_and, BitVec.getLsbD_ushiftRight, BitVec.getLsbD_ushiftRight,
    mask_getLsbD _ (by omega)]
  have h15 : (15#8).getLsbD q = decide (q < 4) := by
    have : ∀ q : Fin 8, (15#8).getLsbD q.val = decide (q.val < 4) := by decide +kernel
    exact this ⟨q, hq⟩
  rw [h15]
  have e1 : (r.val * 8 + q) % 32 % 8 = q := by omega
  rw [e1]
  by_cases h4 : q < 4
  · have e2 : 4 * (l.val % 2) + (r.val * 8 + q) % 32 < 32 := by omega
    have e3 : (4 * (l.val % 2) + (r.val * 8 + q) % 32) % 8 = 4 * (l.val % 2) + q := by omega
    have ea : (ix2 (⟨r.val / 4, by omega⟩ : Fin 64) p : S64x128.Idx) = ValueIdx.ix2 (⟨r.val / 4, by omega⟩ : Fin 64) p := by
      funext b
      match b with
      | ⟨0, _⟩ => rfl
      | ⟨1, _⟩ => rfl
    have eb : (ix2 r p : S256x128.Idx) = ValueIdx.ix2 r p := by
      funext b
      match b with
      | ⟨0, _⟩ => rfl
      | ⟨1, _⟩ => rfl
    rw [ea, eb, bitcast_8_32_getLsbD_ix2 x _ _ _ _ e2 r (by show r.val = 4 * (r.val / 4) + _; omega), e3]
  · simp [h4]

end Cert.KernelIdeal.Slab

end
-- ==== Proof.Stored.lean ====
/-
  What the two cases of the kernel's body store, as compact terms: the first point's 56 slabs of unpacked activations,
  and every point's block of results as fourteen products added up.
-/
module

public import proofs.«01_k».proof.Proof.Slab
public import proofs.«01_k».proof.Proof.Gen.KernelIdeal.Value

@[expose] public section

set_option maxRecDepth 16384

noncomputable section

namespace Cert.KernelIdeal.Stored

open Cert.KernelIdeal Cert.KernelIdeal.Gen Cert.KernelIdeal.Slab Idealize.ShloMosaic Idealize.ShloMosaic.TcCoe
  Idealize.ShloMosaic.Tactic

variable {F : FTy → Type} [FloatOps F]

/-- The low halves of the packed weights, as signed numbers. -/
def low (p : Vec F S64x512 .i8) : IVec S64x512 32 :=
  shrsi (shli (extui 32 (p : IVec S64x512 8) natLt_8_32) (broadcast S64x512 28#32)) (broadcast S64x512 28#32)

/-- The high halves of the packed weights, as signed numbers. -/
def high (p : Vec F S64x512 .i8) : IVec S64x512 32 :=
  shrsi (shli (extui 32 (p : IVec S64x512 8) natLt_8_32) (broadcast S64x512 24#32)) (broadcast S64x512 28#32)

/-- The four-bit weights of one tile: low and high halves of every packed byte, one row after the other. -/
def weights (p : Vec F S64x512 .i8) : IVec S128x512 4 :=
  trunci 4
    (shapeCast S128x512
      (concatenate S64x2x512 1
        [⟨S64x1x512, shapeCast S64x1x512 (low p) shapeCasts_S64x512_S64x1x512⟩,
          ⟨S64x1x512, shapeCast S64x1x512 (high p) shapeCasts_S64x512_S64x1x512⟩]
        concatenates_S64x1x512_S64x1x512_S64x2x512_d1)
      shapeCasts_S64x2x512_S128x512)
    natLt_4_32

/-- One tile of weights: the four-bit weights times the group's row of scales. -/
def tile (p : Vec F S64x512 .i8) (s : Vec F S1x512 .f32) : FVec F S128x512 .bf16 :=
  mulf (sitofp .bf16 (weights p)) (broadcastTo S128x512 (truncf .bf16 (s : FVec F S1x512 .f32) bitsLt_bf16_f32) broadcasts_S1x512_S128x512)

/-- One of the fourteen products: a block of 512 activation columns with the four tiles of weights that meet it. -/
def part (t0 t1 t2 t3 : FVec F S128x512 .bf16) (a : Vec F S256x512 .bf16) : FVec F S256x512 .f32 :=
  matmul dot_S256x512_S512x512_S256x512_1_0_0_1_n_n none a
    (concatenate S512x512 0 [⟨S128x512, t0⟩, ⟨S128x512, t1⟩, ⟨S128x512, t2⟩, ⟨S128x512, t3⟩]
      concatenates_S128x512_S128x512_S128x512_S128x512_S512x512_d0)
    (constant S256x512 .f32 0x00000000#32)

/-- Product `k` of the fourteen, from all tiles and all activation blocks. -/
def partAt (t : Fin 56 → FVec F S128x512 .bf16) (a : Fin 14 → Vec F S256x512 .bf16) (k : Fin 14) : FVec F S256x512 .f32 :=
  part (t ⟨4 * k.val, by omega⟩) (t ⟨4 * k.val + 1, by omega⟩) (t ⟨4 * k.val + 2, by omega⟩) (t ⟨4 * k.val + 3, by omega⟩) (a k)

/-- The block of results: the fourteen products added up from the first, then rounded. -/
def block (t : Fin 56 → FVec F S128x512 .bf16) (a : Fin 14 → Vec F S256x512 .bf16) : FVec F S256x512 .bf16 :=
  truncf .bf16
    (addf (addf (addf (addf (addf (addf (addf (addf (addf (addf (addf (addf (addf (partAt t a 0)
      (partAt t a 1)) (partAt t a 2)) (partAt t a 3)) (partAt t a 4)) (partAt t a 5)) (partAt t a 6)) (partAt t a 7))
      (partAt t a 8)) (partAt t a 9)) (partAt t a 10)) (partAt t a 11)) (partAt t a 12)) (partAt t a 13))
    bitsLt_bf16_f32

/-- The rows of packed weights of tile `g` lie in the block. -/
theorem inbW (g : Fin 56) : ∀ a, (![64 * g.val, 0] : Fin 2 → Nat) a + S64x512.size a ≤ S3584x512.size a := by
  intro a
  match a with
  | ⟨0, _⟩ => show 64 * g.val + 64 ≤ 3584; omega
  | ⟨1, _⟩ => show 0 + 512 ≤ 512; omega

/-- The row of weight scales of group `g` lies in the block. -/
theorem inbS (g : Fin 56) : ∀ a, (![g.val, 0] : Fin 2 → Nat) a + S1x512.size a ≤ S56x512.size a := by
  intro a
  match a with
  | ⟨0, _⟩ => show g.val + 1 ≤ 56; omega
  | ⟨1, _⟩ => show 0 + 512 ≤ 512; omega

/-- The 512 activation columns of product `k` lie in the scratch. -/
theorem inbA (k : Fin 14) : ∀ a, (![0, 512 * k.val] : Fin 2 → Nat) a + S256x512.size a ≤ S256x7168.size a := by
  intro a
  match a with
  | ⟨0, _⟩ => show 0 + 256 ≤ 256; omega
  | ⟨1, _⟩ => show 512 * k.val + 512 ≤ 7168; omega

/-- The 128 packed columns that slab `g` is unpacked from lie in the block. -/
theorem inbX (g : Fin 56) : ∀ a, (![0, 128 * (g.val / 2)] : Fin 2 → Nat) a + S256x128.size a ≤ S256x3584.size a := by
  intro a
  match a with
  | ⟨0, _⟩ => show 0 + 256 ≤ 256; omega
  | ⟨1, _⟩ => show 128 * (g.val / 2) + 128 ≤ 3584; omega

/-- Column `g` of the activation scales, or of the zero points, lies in the block. -/
theorem inbZ (g : Fin 56) : ∀ a, (![0, g.val] : Fin 2 → Nat) a + S256x1.size a ≤ S256x56.size a := by
  intro a
  match a with
  | ⟨0, _⟩ => show 0 + 256 ≤ 256; omega
  | ⟨1, _⟩ => show g.val + 1 ≤ 56; omega

/-- The 128 columns that slab `g` is stored to lie in the scratch. -/
theorem inbO (g : Fin 56) : ∀ a, (![0, 128 * g.val] : Fin 2 → Nat) a + S256x128.size a ≤ S256x7168.size a := by
  intro a
  match a with
  | ⟨0, _⟩ => show 0 + 256 ≤ 256; omega
  | ⟨1, _⟩ => show 128 * g.val + 128 ≤ 7168; omega

/-- Tile `g`, read off the blocks of packed weights and weight scales. -/
def tileOf (x3 : Vec F S3584x512 .i8) (x4 : Vec F S56x512 .f32) (g : Fin 56) : FVec F S128x512 .bf16 :=
  tile (View.ld (Val := Elt F) x3 (Rect.unit (s := S3584x512) ![64 * g.val, 0] S64x512.size (inbW g)))
    (View.ld (Val := Elt F) x4 (Rect.unit (s := S56x512) ![g.val, 0] S1x512.size (inbS g)))

/-- Slab `g`, read off the blocks of packed activations, activation scales and zero points. -/
def slabOf (x0 : Vec F S256x3584 .i8) (x1 : Vec F S256x56 .f32) (x2 : Vec F S256x56 .i8) (g : Fin 56) : FVec F S256x128 .bf16 :=
  slab (BitVec.ofNat 32 (64 * (g.val % 2)))
    (View.ld (Val := Elt F) x0 (Rect.unit (s := S256x3584) ![0, 128 * (g.val / 2)] S256x128.size (inbX g)))
    (View.ld (Val := Elt F) x1 (Rect.unit (s := S256x56) ![0, g.val] S256x1.size (inbZ g)))
    (View.ld (Val := Elt F) x2 (Rect.unit (s := S256x56) ![0, g.val] S256x1.size (inbZ g)))

/-- The 512 activation columns of product `k`, read off the scratch. -/
def actsOf (xs : Vec F S256x7168 .bf16) (k : Fin 14) : Vec F S256x512 .bf16 :=
  View.ld (Val := Elt F) xs (Rect.unit (s := S256x7168) ![0, 512 * k.val] S256x512.size (inbA k))

/-- The store of slab `g`. -/
def slabPiece (x0 : Vec F S256x3584 .i8) (x1 : Vec F S256x56 .f32) (x2 : Vec F S256x56 .i8) (g : Fin 56) :
    View.Piece (Elt F) S256x7168 .bf16 :=
  ⟨Rect.unit (s := S256x7168) ![0, 128 * g.val] S256x128.size (inbO g), slabOf x0 x1 x2 g⟩

/-- The slabs in the order of their stores, the last made first. -/
def order : List (Fin 56) :=
  [55, 54, 53, 52, 51, 50, 49, 48, 47, 46, 45, 44, 43, 42, 41, 40, 39, 38, 37, 36, 35, 34, 33, 32, 31, 30, 29, 28, 27, 26,
    25, 24, 23, 22, 21, 20, 19, 18, 17, 16, 15, 14, 13, 12, 11, 10, 9, 8, 7, 6, 5, 4, 3, 2, 1, 0]

end Cert.KernelIdeal.Stored

end
-- ==== Proof.Math.lean ====
/-
  The mathematics both programs compute: a grouped-quantised product of four-bit codes, as a sum over the 7168 columns,
  and the two ways the programs cut that sum up.
-/
module

public import Mathlib.Data.EReal.Operations
public import Mathlib.Algebra.BigOperators.Fin
public import Mathlib.Logic.Equiv.Fin.Basic
public import Mathlib.Algebra.BigOperators.Group.Finset.Sigma

@[expose] public section

noncomputable section

namespace Cert.Math

/-- The four-bit code in a packed byte: the low half (`odd = 0`) or the high half (`odd = 1`). -/
def code (b : BitVec 8) (odd : Nat) : Nat := b.toNat / 16 ^ odd % 16

/-- A four-bit code read as a signed number. -/
def signed (b : BitVec 8) (odd : Nat) : Int := if code b odd < 8 then (code b odd : Int) else (code b odd : Int) - 16

/-- An activation: the code less the zero point, times the scale. -/
def act (b z : BitVec 8) (s : EReal) (odd : Nat) : EReal := ((((code b odd : Int) - (z.toNat : Int) : Int) : ℝ) : EReal) * s

/-- A weight: the signed code times the scale. -/
def wgt (b : BitVec 8) (s : EReal) (odd : Nat) : EReal := (((signed b odd : Int) : ℝ) : EReal) * s

/-- The code the first way it is unpacked: the byte moved down by four bits at an odd place, the low four bits kept. -/
theorem toInt_code (b : BitVec 8) (odd : Nat) (h : odd < 2) : ((b >>> (4 * odd)) &&& 15#8).toInt = (code b odd : Int) := by
  have key : ∀ (b : BitVec 8) (o : Fin 2), ((b >>> (4 * o.val)) &&& 15#8).toInt = (code b o.val : Int) := by
    unfold code
    decide +kernel
  exact key b ⟨odd, h⟩

/-- A weight's code the first way it is unpacked, low half: moved to the top of a word, then down with its sign, then cut to four bits. -/
theorem toInt_low (b : BitVec 8) :
    (((b.setWidth 32 <<< 28).sshiftRight 28).setWidth 4 : BitVec 4).toInt = signed b 0 := by
  have key : ∀ b : BitVec 8, (((b.setWidth 32 <<< 28).sshiftRight 28).setWidth 4 : BitVec 4).toInt = signed b 0 := by
    unfold signed code
    decide +kernel
  exact key b

/-- The same for the high half. -/
theorem toInt_high (b : BitVec 8) :
    (((b.setWidth 32 <<< 24).sshiftRight 28).setWidth 4 : BitVec 4).toInt = signed b 1 := by
  have key : ∀ b : BitVec 8, (((b.setWidth 32 <<< 24).sshiftRight 28).setWidth 4 : BitVec 4).toInt = signed b 1 := by
    unfold signed code
    decide +kernel
  exact key b

/-- The low code less the zero point, subtracted as words. -/
theorem toInt_centred_low (b z : BitVec 8) :
    ((b.setWidth 32 &&& 15#32) - z.setWidth 32).toInt = (code b 0 : Int) - (z.toNat : Int) := by
  have key : ∀ b : BitVec 8, (b.setWidth 32 &&& 15#32).toNat = code b 0 := by
    unfold code
    decide +kernel
  have hc : code b 0 < 16 := by unfold code; omega
  have hz := z.isLt
  rw [BitVec.toInt_sub, BitVec.toInt_eq_toNat_of_lt, BitVec.toInt_eq_toNat_of_lt, key b, BitVec.toNat_setWidth,
    Int.bmod_eq_of_le] <;> (try rw [key b]) <;> (try rw [BitVec.toNat_setWidth]) <;> omega

/-- The high code less the zero point, subtracted as words. -/
theorem toInt_centred_high (b z : BitVec 8) :
    ((b.setWidth 32).sshiftRight 4 - z.setWidth 32).toInt = (code b 1 : Int) - (z.toNat : Int) := by
  have key : ∀ b : BitVec 8, ((b.setWidth 32).sshiftRight 4).toNat = code b 1 := by
    unfold code
    decide +kernel
  have hc : code b 1 < 16 := by unfold code; omega
  have hz := z.isLt
  rw [BitVec.toInt_sub, BitVec.toInt_eq_toNat_of_lt, BitVec.toInt_eq_toNat_of_lt, key b, BitVec.toNat_setWidth,
    Int.bmod_eq_of_le] <;> (try rw [key b]) <;> (try rw [BitVec.toNat_setWidth]) <;> omega

/-- The sum over 14 blocks of 512 is the sum over 7168. -/
theorem sum_blocks {M : Type} [AddCommMonoid M] (f : Fin 7168 → M) :
    (∑ k : Fin 14, ∑ q : Fin 512, f ⟨512 * k.val + q.val, by omega⟩) = ∑ i, f i := by
  rw [← Fintype.sum_prod_type']
  refine Fintype.sum_equiv (finProdFinEquiv (m := 14) (n := 512)) _ _ fun x => congrArg f (Fin.ext ?_)
  show 512 * x.1.val + x.2.val = x.2.val + 512 * x.1.val
  omega

/-- The sum over the even places plus the sum over the odd places is the sum over all. -/
theorem sum_halves {M : Type} [AddCommMonoid M] (f : Fin 7168 → M) :
    (∑ k : Fin 3584, f ⟨2 * k.val, by omega⟩) + (∑ k : Fin 3584, f ⟨2 * k.val + 1, by omega⟩) = ∑ i, f i := by
  rw [← Finset.sum_add_distrib]
  have h : ∀ k : Fin 3584, f ⟨2 * k.val, by omega⟩ + f ⟨2 * k.val + 1, by omega⟩
      = ∑ q : Fin 2, f ⟨2 * k.val + q.val, by omega⟩ := fun k => by rw [Fin.sum_univ_two]; rfl
  rw [Finset.sum_congr rfl fun k _ => h k, ← Fintype.sum_prod_type']
  refine Fintype.sum_equiv (finProdFinEquiv (m := 3584) (n := 2)) _ _ fun x => congrArg f (Fin.ext ?_)
  show 2 * x.1.val + x.2.val = x.2.val + 2 * x.1.val
  omega

end Cert.Math

end
-- ==== Proof.Tile.lean ====
/-
  The compact terms of the kernel's stores at an index, over the extended reals.
-/
module

public import proofs.«01_k».proof.Proof.Stored
public import proofs.«01_k».proof.Proof.Math
public import Idealize.ShloMosaic.Lib.Pipeline.Value
public import Idealize.ShloMosaic.Lib.Pointwise.Contract
public import Idealize.ShloMosaic.Lib.Pointwise.Select
public import Idealize.ShloMosaic.Lib.Pointwise.Elementwise

@[expose] public section

set_option maxRecDepth 16384

noncomputable section

namespace Cert.KernelIdeal.Tile

open Cert.KernelIdeal Cert.KernelIdeal.Gen Cert.KernelIdeal.Slab Cert.KernelIdeal.Stored Idealize.ShloMosaic
open Cert.Math

/-- One slab at row `r`, lane `l`: the activation unpacked from the packed byte at source lane `p`. -/
theorem slab_apply (off : BitVec 32) (x : Vec Ideal S256x128 .i8) (sc : Vec Ideal S256x1 .f32) (z : Vec Ideal S256x1 .i8)
    (r : Fin 256) (l p : Fin 128) (hp : ∀ a : Fin 64, source off (ix2 a l) = BitVec.ofNat 32 p.val) :
    slab (F := Ideal) off x sc z (ix2 r l) = act (x (ix2 r p)) (z (ix2 r 0)) (sc (ix2 r 0)) (l.val % 2) := by
  unfold slab
  pointwise
  rw [codes_apply off x r l p hp]
  show ((((x (ix2 r p) >>> (4 * (l.val % 2))) &&& 15#8).toInt : ℝ) - (((z (ix2 r 0) : BitVec 8).toNat : ℝ) : EReal)) * sc (ix2 r 0) = _
  rw [toInt_code _ _ (by omega), ← EReal.coe_sub]
  unfold act
  push_cast
  rfl

/-- One four-bit weight of a tile, at row `q` and column `j`. -/
theorem weights_apply (p : Vec Ideal S64x512 .i8) (q : Fin 128) (j : Fin 512) :
    (weights p (ix2 q j)).toInt = signed (p (ix2 ⟨q.val / 2, by omega⟩ j)) (q.val % 2) := by
  unfold weights low high
  pointwise
  have h2 : q.val % 2 = 0 ∨ q.val % 2 = 1 := by omega
  rcases h2 with h | h
  · rw [dif_pos (by omega)]
    exact (toInt_low _).trans (congrArg (signed _) h.symm)
  · rw [dif_neg (by omega)]
    exact (toInt_high _).trans (congrArg (signed _) h.symm)

/-- One tile of weights at row `q`, column `j`. -/
theorem tile_apply (p : Vec Ideal S64x512 .i8) (s : Vec Ideal S1x512 .f32) (q : Fin 128) (j : Fin 512) :
    tile (F := Ideal) p s (ix2 q j) = wgt (p (ix2 ⟨q.val / 2, by omega⟩ j)) (s (ix2 0 j)) (q.val % 2) := by
  unfold tile
  pointwise
  show (((weights p (ix2 q j)).toInt : ℝ) : EReal) * s (ix2 0 j) = _
  rw [weights_apply]
  rfl

/-- The four tiles one over the other: row `q` is row `q % 128` of tile `q / 128`. -/
theorem tiles_apply (t : Fin 4 → FVec Ideal S128x512 .bf16) (q : Fin 512) (j : Fin 512) :
    concatenate S512x512 0 [⟨S128x512, t 0⟩, ⟨S128x512, t 1⟩, ⟨S128x512, t 2⟩, ⟨S128x512, t 3⟩]
        concatenates_S128x512_S128x512_S128x512_S128x512_S512x512_d0 (ix2 q j)
      = t ⟨q.val / 128, by omega⟩ (ix2 ⟨q.val % 128, by omega⟩ j) :=
  concatenate_ofFn_apply (t := S512x512) (s₁ := S128x512) 0 t
    concatenates_S128x512_S128x512_S128x512_S128x512_S512x512_d0 rfl 128 rfl (ix2 q j) ⟨q.val / 128, by omega⟩ rfl
    (ix2 ⟨q.val % 128, by omega⟩ j) rfl (fun b hb => by
      match b with
      | ⟨0, _⟩ => exact absurd rfl hb
      | ⟨1, _⟩ => rfl)

/-- One of the fourteen products, its right operand any array. -/
theorem matmul_row (a : FVec Ideal S256x512 .bf16) (w : FVec Ideal S512x512 .bf16) (r : Fin 256) (j : Fin 512) :
    matmul (F := Ideal) dot_S256x512_S512x512_S256x512_1_0_0_1_n_n none a w (constant S256x512 .f32 0x00000000#32) (ix2 r j)
      = ∑ q : Fin 512, a (ix2 r q) * w (ix2 q j) := by
  pointwise

/-- Product `k` of the fourteen: columns `512 k` to `512 k + 511`. -/
theorem partAt_apply (t : Fin 56 → FVec Ideal S128x512 .bf16) (a : Fin 14 → Vec Ideal S256x512 .bf16)
    (A : Fin 256 → Fin 7168 → EReal) (W : Fin 7168 → Fin 512 → EReal)
    (ht : ∀ (g : Fin 56) (q : Fin 128) (j : Fin 512), t g (ix2 q j) = W ⟨128 * g.val + q.val, by omega⟩ j)
    (ha : ∀ (k : Fin 14) (r : Fin 256) (q : Fin 512), a k (ix2 r q) = A r ⟨512 * k.val + q.val, by omega⟩)
    (k : Fin 14) (r : Fin 256) (j : Fin 512) :
    partAt (F := Ideal) t a k (ix2 r j)
      = ∑ q : Fin 512, A r ⟨512 * k.val + q.val, by omega⟩ * W ⟨512 * k.val + q.val, by omega⟩ j := by
  unfold partAt part
  rw [matmul_row]
  refine Finset.sum_congr rfl fun q _ => ?_
  rw [ha]
  refine congrArg (A r _ * ·) ?_
  refine (tiles_apply (fun i => t ⟨4 * k.val + i.val, by omega⟩) q j).trans ?_
  rw [ht]
  refine congrFun (congrArg W (Fin.ext ?_)) j
  show 128 * (4 * k.val + q.val / 128) + q.val % 128 = 512 * k.val + q.val
  omega

/-- The block of results at row `r`, column `j`: the sum over all 7168 columns of activations. -/
theorem block_apply (t : Fin 56 → FVec Ideal S128x512 .bf16) (a : Fin 14 → Vec Ideal S256x512 .bf16)
    (A : Fin 256 → Fin 7168 → EReal) (W : Fin 7168 → Fin 512 → EReal)
    (ht : ∀ (g : Fin 56) (q : Fin 128) (j : Fin 512), t g (ix2 q j) = W ⟨128 * g.val + q.val, by omega⟩ j)
    (ha : ∀ (k : Fin 14) (r : Fin 256) (q : Fin 512), a k (ix2 r q) = A r ⟨512 * k.val + q.val, by omega⟩)
    (r : Fin 256) (j : Fin 512) :
    block (F := Ideal) t a (ix2 r j) = ∑ i : Fin 7168, A r i * W i j := by
  rw [← sum_blocks (fun i => A r i * W i j), ← Finset.sum_congr rfl fun k _ => partAt_apply t a A W ht ha k r j]
  simp only [Fin.sum_univ_castSucc, Fin.sum_univ_zero, zero_add]
  rfl

end Cert.KernelIdeal.Tile

end
-- ==== Proof.RunA.lean ====
/-
  What the first point's run stores to the results, as the compact terms.
-/
module

public import proofs.«01_k».proof.Proof.Stored

@[expose] public section

set_option maxRecDepth 65536

noncomputable section

namespace Cert.KernelIdeal.Stored

open Cert.KernelIdeal Cert.KernelIdeal.Gen Cert.KernelIdeal.Slab Idealize.ShloMosaic Idealize.ShloMosaic.TcCoe
  Idealize.ShloMosaic.Tactic

variable {F : FTy → Type} [FloatOps F]

section
variable (c : Dev nD) (i : grid0.Coords) (arg1 : Memref sig .tc .vmem S256x3584 .i8) (harg1 : arg1.IsWhole) (arg2 : Memref sig .tc .vmem S256x56 .f32) (harg2 : arg2.IsWhole) (arg3 : Memref sig .tc .vmem S256x56 .i8) (harg3 : arg3.IsWhole) (arg4 : Memref sig .tc .vmem S3584x512 .i8) (harg4 : arg4.IsWhole) (arg5 : Memref sig .tc .vmem S56x512 .f32) (harg5 : arg5.IsWhole) (arg6 : Memref sig .tc .vmem S256x512 .bf16) (harg6 : arg6.IsWhole) (arg7 : Memref sig .tc .vmem S256x7168 .bf16) (harg7 : arg7.IsWhole)
  (x0 : Vec F S256x3584 .i8) (x1 : Vec F S256x56 .f32) (x2 : Vec F S256x56 .i8) (x3 : Vec F S3584x512 .i8) (x4 : Vec F S56x512 .f32) (xs0 : Vec F S256x7168 .bf16)

/-- What the first point stores to the results, over the loads as the run reads them. -/
theorem stored_A_run (hc0 : cond0_0 i) :
    (kernelRun0_A c i arg1 harg1 arg2 harg2 arg3 harg3 arg4 harg4 arg5 harg5 arg6 harg6 arg7 harg7 hc0 x0 x1 x2 x3 x4).1
      = [⟨Rect.unit (s := S256x512) ![0, 0] S256x512.size inb_S256x512_S256x512_0_0,
          block (tileOf (arg4.view.read (Elt F) (harg4.unread x3)) (arg5.view.read (Elt F) (harg5.unread x4)))
            (fun k => arg7.view.readCov
              (kernelRun0_A c i arg1 harg1 arg2 harg2 arg3 harg3 arg4 harg4 arg5 harg5 arg6 harg6 arg7 harg7 hc0 x0 x1 x2 x3 x4).2.1
              (Rect.unit (s := S256x7168) ![0, 512 * k.val] S256x512.size (inbA k)).toLoadRect)⟩] := by
  sl_kernel_rfl
end

end Cert.KernelIdeal.Stored

end
-- ==== Proof.RunB.lean ====
/-
  What the later points' run stores, as the compact terms.
-/
module

public import proofs.«01_k».proof.Proof.Stored

@[expose] public section

set_option maxRecDepth 16384

noncomputable section

namespace Cert.KernelIdeal.Stored

open Cert.KernelIdeal Cert.KernelIdeal.Gen Cert.KernelIdeal.Slab Idealize.ShloMosaic Idealize.ShloMosaic.TcCoe
  Idealize.ShloMosaic.Tactic

variable {F : FTy → Type} [FloatOps F]

section
variable (c : Dev nD) (i : grid0.Coords) (arg1 : Memref sig .tc .vmem S256x3584 .i8) (harg1 : arg1.IsWhole) (arg2 : Memref sig .tc .vmem S256x56 .f32) (harg2 : arg2.IsWhole) (arg3 : Memref sig .tc .vmem S256x56 .i8) (harg3 : arg3.IsWhole) (arg4 : Memref sig .tc .vmem S3584x512 .i8) (harg4 : arg4.IsWhole) (arg5 : Memref sig .tc .vmem S56x512 .f32) (harg5 : arg5.IsWhole) (arg6 : Memref sig .tc .vmem S256x512 .bf16) (harg6 : arg6.IsWhole) (arg7 : Memref sig .tc .vmem S256x7168 .bf16) (harg7 : arg7.IsWhole)
  (x0 : Vec F S256x3584 .i8) (x1 : Vec F S256x56 .f32) (x2 : Vec F S256x56 .i8) (x3 : Vec F S3584x512 .i8) (x4 : Vec F S56x512 .f32) (xs0 : Vec F S256x7168 .bf16)

/-- What the later points store to the results, over the loads as the run reads them. -/
theorem stored_B_run (hc0 : ¬cond0_0 i) :
    (kernelRun0_B c i arg1 harg1 arg2 harg2 arg3 harg3 arg4 harg4 arg5 harg5 arg6 harg6 arg7 harg7 hc0 x0 x1 x2 x3 x4 xs0).1
      = [⟨Rect.unit (s := S256x512) ![0, 0] S256x512.size inb_S256x512_S256x512_0_0,
          block (tileOf (arg4.view.read (Elt F) (harg4.unread x3)) (arg5.view.read (Elt F) (harg5.unread x4)))
            (actsOf (arg7.view.read (Elt F) (harg7.unread xs0)))⟩] := by
  sl_kernel_rfl

end

end Cert.KernelIdeal.Stored

end
-- ==== Proof.RunS.lean ====
/-
  What the first point's run stores to the scratch, as the compact terms.
-/
module

public import proofs.«01_k».proof.Proof.Stored

@[expose] public section

set_option maxRecDepth 16384

noncomputable section

namespace Cert.KernelIdeal.Stored

open Cert.KernelIdeal Cert.KernelIdeal.Gen Cert.KernelIdeal.Slab Idealize.ShloMosaic Idealize.ShloMosaic.TcCoe
  Idealize.ShloMosaic.Tactic

variable {F : FTy → Type} [FloatOps F]

section
variable (c : Dev nD) (i : grid0.Coords) (arg1 : Memref sig .tc .vmem S256x3584 .i8) (harg1 : arg1.IsWhole) (arg2 : Memref sig .tc .vmem S256x56 .f32) (harg2 : arg2.IsWhole) (arg3 : Memref sig .tc .vmem S256x56 .i8) (harg3 : arg3.IsWhole) (arg4 : Memref sig .tc .vmem S3584x512 .i8) (harg4 : arg4.IsWhole) (arg5 : Memref sig .tc .vmem S56x512 .f32) (harg5 : arg5.IsWhole) (arg6 : Memref sig .tc .vmem S256x512 .bf16) (harg6 : arg6.IsWhole) (arg7 : Memref sig .tc .vmem S256x7168 .bf16) (harg7 : arg7.IsWhole)
  (x0 : Vec F S256x3584 .i8) (x1 : Vec F S256x56 .f32) (x2 : Vec F S256x56 .i8) (x3 : Vec F S3584x512 .i8) (x4 : Vec F S56x512 .f32) (xs0 : Vec F S256x7168 .bf16)

/-- What the first point stores to the scratch, over the loads as the run reads them. -/
theorem scratch_A_run (hc0 : cond0_0 i) :
    (kernelRun0_A c i arg1 harg1 arg2 harg2 arg3 harg3 arg4 harg4 arg5 harg5 arg6 harg6 arg7 harg7 hc0 x0 x1 x2 x3 x4).2.1
      = order.map (slabPiece (arg1.view.read (Elt F) (harg1.unread x0)) (arg2.view.read (Elt F) (harg2.unread x1))
          (arg3.view.read (Elt F) (harg3.unread x2))) := by
  sl_kernel_rfl

end

end Cert.KernelIdeal.Stored

end
-- ==== Proof.Values.lean ====
/-
  What the kernel's body leaves in the scratch and in the block of results, over the extended reals: the scratch holds the
  unpacked activations, and every element of the block is the sum over all 7168 columns.
-/
module

public import proofs.«01_k».proof.Proof.Tile
public import proofs.«01_k».proof.Proof.RunA
public import proofs.«01_k».proof.Proof.RunB
public import proofs.«01_k».proof.Proof.RunS

@[expose] public section

set_option maxRecDepth 16384

noncomputable section

namespace Cert.KernelIdeal.Values

open Cert.KernelIdeal Cert.KernelIdeal.Gen Cert.KernelIdeal.Slab Cert.KernelIdeal.Stored Cert.KernelIdeal.Tile Idealize.ShloMosaic
open Cert.Math

/-- The activation at row `r`, column `k`, off the packed codes, the scales and the zero points. -/
def A (x0 : Vec Ideal S256x3584 .i8) (x1 : Vec Ideal S256x56 .f32) (x2 : Vec Ideal S256x56 .i8) (r : Fin 256) (k : Fin 7168) : EReal :=
  act (x0 (ix2 r ⟨k.val / 2, by omega⟩)) (x2 (ix2 r ⟨k.val / 128, by omega⟩)) (x1 (ix2 r ⟨k.val / 128, by omega⟩)) (k.val % 2)

/-- The weight at row `k`, column `j` of a block, off the packed codes and the scales. -/
def W (x3 : Vec Ideal S3584x512 .i8) (x4 : Vec Ideal S56x512 .f32) (k : Fin 7168) (j : Fin 512) : EReal :=
  wgt (x3 (ix2 ⟨k.val / 2, by omega⟩ j)) (x4 (ix2 ⟨k.val / 128, by omega⟩ j)) (k.val % 2)

/-- The unpacked activations as an array. -/
def acts (x0 : Vec Ideal S256x3584 .i8) (x1 : Vec Ideal S256x56 .f32) (x2 : Vec Ideal S256x56 .i8) : Vec Ideal S256x7168 .bf16 :=
  fun y => A x0 x1 x2 (y 0) (y 1)

/-- A load of a unit-stride rectangle of a two-axis array, read at an index. -/
theorem ld_apply {e : EltTy} {n0 n1 s0 s1 : Nat} (X : (⟨2, ![n0, n1]⟩ : Shape).Idx → Elt Ideal e) (o0 o1 : Nat)
    (inb : ∀ a, (![o0, o1] : Fin 2 → Nat) a + (![s0, s1] : Fin 2 → Nat) a ≤ (⟨2, ![n0, n1]⟩ : Shape).size a)
    (i : Fin s0) (j : Fin s1) (i' : Fin n0) (j' : Fin n1) (hi : i'.val = o0 + i.val) (hj : j'.val = o1 + j.val) :
    View.ld (Val := Elt Ideal) X (Rect.unit (s := ⟨2, ![n0, n1]⟩) ![o0, o1] ![s0, s1] inb) (ix2 i j) = X (ix2 i' j') := by
  refine congrArg X ?_
  funext b
  match b with
  | ⟨0, _⟩ => exact Fin.ext (show o0 + 1 * i.val = i'.val by omega)
  | ⟨1, _⟩ => exact Fin.ext (show o1 + 1 * j.val = j'.val by omega)

/-- Tile `g` at row `q` is row `128 g + q` of the weights. -/
theorem tileOf_apply (x3 : Vec Ideal S3584x512 .i8) (x4 : Vec Ideal S56x512 .f32) (g : Fin 56) (q : Fin 128) (j : Fin 512) :
    tileOf (F := Ideal) x3 x4 g (ix2 q j) = W x3 x4 ⟨128 * g.val + q.val, by omega⟩ j := by
  unfold tileOf W
  rw [tile_apply]
  refine congr (congr (congrArg wgt ?_) ?_) ?_
  · exact ld_apply (e := .i8) (s0 := 64) (s1 := 512) x3 _ _ _ _ _ _ _ (by show (128 * g.val + q.val) / 2 = 64 * g.val + q.val / 2; omega) (by show j.val = 0 + j.val; omega)
  · exact ld_apply (e := .f32) (s0 := 1) (s1 := 512) x4 _ _ _ _ _ _ _ (by show (128 * g.val + q.val) / 128 = g.val + 0; omega) (by show j.val = 0 + j.val; omega)
  · show q.val % 2 = (128 * g.val + q.val) % 2
    omega

/-- Slab `g` at lane `l` is column `128 g + l` of the activations. -/
theorem slabOf_apply (x0 : Vec Ideal S256x3584 .i8) (x1 : Vec Ideal S256x56 .f32) (x2 : Vec Ideal S256x56 .i8) (g : Fin 56)
    (r : Fin 256) (l : Fin 128) :
    slabOf (F := Ideal) x0 x1 x2 g (ix2 r l) = A x0 x1 x2 r ⟨128 * g.val + l.val, by omega⟩ := by
  unfold slabOf A
  have hp : ∀ a : Fin 64, source (BitVec.ofNat 32 (64 * (g.val % 2))) (ix2 a l)
      = BitVec.ofNat 32 (⟨64 * (g.val % 2) + l.val / 2, by omega⟩ : Fin 128).val := by
    intro a
    have h2 : g.val % 2 = 0 ∨ g.val % 2 = 1 := by omega
    rcases h2 with h | h
    · simp only [h]
      exact (source_zero a l).trans (congrArg (BitVec.ofNat 32) (by omega))
    · simp only [h]
      exact source_half a l
  rw [slab_apply _ _ _ _ r l _ hp]
  refine congr (congr (congr (congrArg act ?_) ?_) ?_) ?_
  · exact ld_apply (e := .i8) (s0 := 256) (s1 := 128) x0 _ _ _ _ _ _ _ (by show r.val = 0 + r.val; omega)
      (by show (128 * g.val + l.val) / 2 = 128 * (g.val / 2) + (64 * (g.val % 2) + l.val / 2); omega)
  · exact ld_apply (e := .i8) (s0 := 256) (s1 := 1) x2 _ _ _ _ _ _ _ (by show r.val = 0 + r.val; omega)
      (by show (128 * g.val + l.val) / 128 = g.val + 0; omega)
  · exact ld_apply (e := .f32) (s0 := 256) (s1 := 1) x1 _ _ _ _ _ _ _ (by show r.val = 0 + r.val; omega)
      (by show (128 * g.val + l.val) / 128 = g.val + 0; omega)
  · show l.val % 2 = (128 * g.val + l.val) % 2
    omega

/-- The activation columns of product `k`, off the unpacked activations. -/
theorem actsOf_apply (x0 : Vec Ideal S256x3584 .i8) (x1 : Vec Ideal S256x56 .f32) (x2 : Vec Ideal S256x56 .i8) (k : Fin 14)
    (r : Fin 256) (q : Fin 512) :
    actsOf (F := Ideal) (acts x0 x1 x2) k (ix2 r q) = A x0 x1 x2 r ⟨512 * k.val + q.val, by omega⟩ :=
  ld_apply (e := .bf16) (s0 := 256) (s1 := 512) (acts x0 x1 x2) _ _ _ _ _ r ⟨512 * k.val + q.val, by omega⟩
    (by show r.val = 0 + r.val; omega) rfl

/-- The block of results off the unpacked activations, at row `r` and column `j`. -/
theorem block_acts (x0 : Vec Ideal S256x3584 .i8) (x1 : Vec Ideal S256x56 .f32) (x2 : Vec Ideal S256x56 .i8)
    (x3 : Vec Ideal S3584x512 .i8) (x4 : Vec Ideal S56x512 .f32) (r : Fin 256) (j : Fin 512) :
    block (F := Ideal) (tileOf x3 x4) (actsOf (acts x0 x1 x2)) (ix2 r j) = ∑ k : Fin 7168, A x0 x1 x2 r k * W x3 x4 k j :=
  block_apply _ _ _ _ (tileOf_apply x3 x4) (actsOf_apply x0 x1 x2) r j

/-- The stores of the 56 slabs, read at any index they cover, are the unpacked activations. -/
theorem canon_slabs (x0 : Vec Ideal S256x3584 .i8) (x1 : Vec Ideal S256x56 .f32) (x2 : Vec Ideal S256x56 .i8)
    (h : ∀ y : S256x7168.Idx, ∃ p ∈ order.map (slabPiece (F := Ideal) x0 x1 x2), y ∈ p.1.set) :
    View.canon (order.map (slabPiece (F := Ideal) x0 x1 x2)) = acts x0 x1 x2 := by
  funext y
  refine View.canon_apply_of_pieces (acts x0 x1 x2) _ ?_ y (h y)
  intro p hp x
  obtain ⟨g, _, rfl⟩ := List.mem_map.mp hp
  have hx : x = (ix2 (x 0) (x 1) : S256x128.Idx) := eq_ix2 x
  refine (congrArg (slabOf (F := Ideal) x0 x1 x2 g) hx).trans ((slabOf_apply x0 x1 x2 g (x 0) (x 1)).trans ?_)
  refine congr (congrArg (A x0 x1 x2) (Fin.ext ?_)) (Fin.ext ?_)
  · show (x 0).val = 0 + 1 * (x 0).val
    omega
  · show 128 * g.val + (x 1).val = 128 * g.val + 1 * (x 1).val
    omega

/-- The zero offsets of a whole block. -/
theorem hz : (![0, 0] : Fin 2 → Nat) = fun _ => 0 := funext fun a => by fin_cases a <;> rfl

section
variable (c : Dev nD) (i : grid0.Coords) (arg1 : Memref sig .tc .vmem S256x3584 .i8) (harg1 : arg1.IsWhole) (arg2 : Memref sig .tc .vmem S256x56 .f32) (harg2 : arg2.IsWhole) (arg3 : Memref sig .tc .vmem S256x56 .i8) (harg3 : arg3.IsWhole) (arg4 : Memref sig .tc .vmem S3584x512 .i8) (harg4 : arg4.IsWhole) (arg5 : Memref sig .tc .vmem S56x512 .f32) (harg5 : arg5.IsWhole) (arg6 : Memref sig .tc .vmem S256x512 .bf16) (harg6 : arg6.IsWhole) (arg7 : Memref sig .tc .vmem S256x7168 .bf16) (harg7 : arg7.IsWhole)
  (x0 : Vec Ideal S256x3584 .i8) (x1 : Vec Ideal S256x56 .f32) (x2 : Vec Ideal S256x56 .i8) (x3 : Vec Ideal S3584x512 .i8) (x4 : Vec Ideal S56x512 .f32) (xs0 : Vec Ideal S256x7168 .bf16)

/-- After the first point, the scratch holds the unpacked activations. -/
theorem scratch_A (hc0 : cond0_0 i) :
    sout0_A_0 (F := Ideal) c i arg1 harg1 arg2 harg2 arg3 harg3 arg4 harg4 arg5 harg5 arg6 harg6 arg7 harg7 hc0 x0 x1 x2 x3 x4
      = acts x0 x1 x2 := by
  have hcov := scover0_A_0 (F := Ideal) c i arg1 harg1 arg2 harg2 arg3 harg3 arg4 harg4 arg5 harg5 arg6 harg6 arg7 harg7 hc0 x0 x1 x2 x3 x4
  unfold sout0_A_0
  rw [View.read_writes_junk_eq_canon]
  rw [scratch_A_run, harg1.read_unread, harg2.read_unread, harg3.read_unread] at hcov ⊢
  exact canon_slabs x0 x1 x2 hcov

/-- The block the first point stores. -/
theorem block_A (hc0 : cond0_0 i) :
    out0_A_5 (F := Ideal) c i arg1 harg1 arg2 harg2 arg3 harg3 arg4 harg4 arg5 harg5 arg6 harg6 arg7 harg7 hc0 x0 x1 x2 x3 x4
      = block (F := Ideal) (tileOf x3 x4) (actsOf (acts x0 x1 x2)) := by
  have hcov := scover0_A_0 (F := Ideal) c i arg1 harg1 arg2 harg2 arg3 harg3 arg4 harg4 arg5 harg5 arg6 harg6 arg7 harg7 hc0 x0 x1 x2 x3 x4
  unfold out0_A_5
  rw [View.read_writes_junk_eq_canon, stored_A_run, View.canon_unit_zero hz, harg4.read_unread, harg5.read_unread]
  rw [scratch_A_run, harg1.read_unread, harg2.read_unread, harg3.read_unread] at hcov ⊢
  refine congrArg _ (funext fun k => ?_)
  rw [View.readCov_eq_canon', canon_slabs x0 x1 x2 hcov]
  rfl

/-- The block a later point stores, off the scratch as it finds it. -/
theorem block_B (hc0 : ¬cond0_0 i) :
    out0_B_5 (F := Ideal) c i arg1 harg1 arg2 harg2 arg3 harg3 arg4 harg4 arg5 harg5 arg6 harg6 arg7 harg7 hc0 x0 x1 x2 x3 x4 xs0
      = block (F := Ideal) (tileOf x3 x4) (actsOf xs0) := by
  unfold out0_B_5
  rw [View.read_writes_junk_eq_canon, stored_B_run, View.canon_unit_zero hz, harg4.read_unread, harg5.read_unread,
    harg7.read_unread]
end

end Cert.KernelIdeal.Values

end
-- ==== Proof.Final.lean ====
/-
  The kernel's result, element by element, off the arrays it is given.
-/
module

public import proofs.«01_k».proof.Proof.Values
public import proofs.«01_k».proof.Proof.Gen.KernelIdeal.Value
public import Idealize.ShloMosaic.Lib.Pointwise.Tactic
public import Idealize.ShloMosaic.Lib.Pointwise.Reshape

@[expose] public section

set_option maxRecDepth 16384

noncomputable section

namespace Cert.KernelIdeal.Final

open Cert.KernelIdeal Cert.KernelIdeal.Gen Cert.KernelIdeal.Stored Cert.KernelIdeal.Values Cert.KernelIdeal.Value
open Idealize.ShloMosaic Idealize.ShloMosaic.TcCoe Idealize.ShloMosaic.Tactic
open Cert.Math

/-- A leading axis of size one dropped, read at an index. -/
theorem dropped_wide {e : EltTy} (x : S1x256x3584.Idx → Elt Ideal e) (a : Fin 256) (b : Fin 3584) :
    shapeCast S256x3584 x shapeCasts_S1x256x3584_S256x3584 (ix2 a b) = x (ix3 0 a b) := by
  pointwise

/-- A leading axis of size one dropped, read at an index. -/
theorem dropped {e : EltTy} (x : S1x256x56.Idx → Elt Ideal e) (a : Fin 256) (b : Fin 56) :
    shapeCast S256x56 x shapeCasts_S1x256x56_S256x56 (ix2 a b) = x (ix3 0 a b) := by
  pointwise

variable (m : (ℓ : Loc nD τ sig) → Buf (Elt Ideal) ℓ) (c : Dev nD)

/-- The host's array of packed activations, its leading axis of size one dropped. -/
theorem V_v0 : (V m c main_v0 : Vec Ideal S256x3584 .i8)
    = shapeCast S256x3584 (m ((c : Thread nD τ).loc main_arg0) : Vec Ideal S1x256x3584 .i8) shapeCasts_S1x256x3584_S256x3584 := by
  unfold_abbrev_sides
  after_results
  rfl

/-- The host's array of activation scales, its leading axis of size one dropped. -/
theorem V_v1 : (V m c main_v1 : Vec Ideal S256x56 .f32)
    = shapeCast S256x56 (m ((c : Thread nD τ).loc main_arg1) : Vec Ideal S1x256x56 .f32) shapeCasts_S1x256x56_S256x56 := by
  unfold_abbrev_sides
  after_results
  rfl

/-- The host's array of zero points, its leading axis of size one dropped. -/
theorem V_v2 : (V m c main_v2 : Vec Ideal S256x56 .i8)
    = shapeCast S256x56 (m ((c : Thread nD τ).loc main_arg2) : Vec Ideal S1x256x56 .i8) shapeCasts_S1x256x56_S256x56 := by
  unfold_abbrev_sides
  after_results
  rfl

/-- The printed index maps: the first three windows never move. -/
theorem idx_fixed : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

/-- The printed index maps: the two weight windows move by one block of columns at each point. -/
theorem idx_moving : ∀ t : Fin cfg0.N, (win0_3.index t 0 = 0 ∧ win0_3.index t 1 = t.val) ∧ (win0_4.index t 0 = 0 ∧ win0_4.index t 1 = t.val) :=
  (by decide +kernel : ∀ t : Fin grid0.N, _)

/-- The packed activations without the leading axis of size one, at an index. -/
theorem V_v0_apply (a : Fin 256) (b : Fin 3584) : (V m c main_v0 : Vec Ideal S256x3584 .i8) (ix2 a b)
    = (m ((c : Thread nD τ).loc main_arg0) : Vec Ideal S1x256x3584 .i8) (ix3 0 a b) := by
  exact (congrFun (V_v0 m c) (ix2 a b)).trans (dropped_wide _ a b)

/-- The packed activations as every point finds them. -/
theorem iblk0 (t : Fin cfg0.N) (a : Fin 256) (b : Fin 3584) : (iblk m c 0 t : Vec Ideal S256x3584 .i8) (ix2 a b)
    = (m ((c : Thread nD τ).loc main_arg0) : Vec Ideal S1x256x3584 .i8) (ix3 0 a b) := by
  have hi := (idx_fixed t).1
  unfold iblk
  rw [View.read_apply]
  have h : (((cfg0.win 0).blk t).view.emb (ix2 a b : S256x3584.Idx) : S256x3584.Idx) = ix2 a b := by
    funext d
    apply Fin.ext
    match d with
    | ⟨0, _⟩ => show win0_0.index t 0 * 256 + 1 * a.val = a.val; rw [hi.1]; omega
    | ⟨1, _⟩ => show win0_0.index t 1 * 3584 + 1 * b.val = b.val; rw [hi.2]; omega
  exact (congrArg (V m c main_v0 : Vec Ideal S256x3584 .i8) h).trans (V_v0_apply m c a b)

/-- The activation scales without the leading axis of size one, at an index. -/
theorem V_v1_apply (a : Fin 256) (b : Fin 56) : (V m c main_v1 : Vec Ideal S256x56 .f32) (ix2 a b)
    = (m ((c : Thread nD τ).loc main_arg1) : Vec Ideal S1x256x56 .f32) (ix3 0 a b) := by
  exact (congrFun (V_v1 m c) (ix2 a b)).trans (dropped _ a b)

/-- The activation scales as every point finds them. -/
theorem iblk1 (t : Fin cfg0.N) (a : Fin 256) (b : Fin 56) : (iblk m c 1 t : Vec Ideal S256x56 .f32) (ix2 a b)
    = (m ((c : Thread nD τ).loc main_arg1) : Vec Ideal S1x256x56 .f32) (ix3 0 a b) := by
  have hi := (idx_fixed t).2.1
  unfold iblk
  rw [View.read_apply]
  have h : (((cfg0.win 1).blk t).view.emb (ix2 a b : S256x56.Idx) : S256x56.Idx) = ix2 a b := by
    funext d
    apply Fin.ext
    match d with
    | ⟨0, _⟩ => show win0_1.index t 0 * 256 + 1 * a.val = a.val; rw [hi.1]; omega
    | ⟨1, _⟩ => show win0_1.index t 1 * 56 + 1 * b.val = b.val; rw [hi.2]; omega
  exact (congrArg (V m c main_v1 : Vec Ideal S256x56 .f32) h).trans (V_v1_apply m c a b)

/-- The zero points without the leading axis of size one, at an index. -/
theorem V_v2_apply (a : Fin 256) (b : Fin 56) : (V m c main_v2 : Vec Ideal S256x56 .i8) (ix2 a b)
    = (m ((c : Thread nD τ).loc main_arg2) : Vec Ideal S1x256x56 .i8) (ix3 0 a b) := by
  exact (congrFun (V_v2 m c) (ix2 a b)).trans (dropped _ a b)

/-- The zero points as every point finds them. -/
theorem iblk2 (t : Fin cfg0.N) (a : Fin 256) (b : Fin 56) : (iblk m c 2 t : Vec Ideal S256x56 .i8) (ix2 a b)
    = (m ((c : Thread nD τ).loc main_arg2) : Vec Ideal S1x256x56 .i8) (ix3 0 a b) := by
  have hi := (idx_fixed t).2.2
  unfold iblk
  rw [View.read_apply]
  have h : (((cfg0.win 2).blk t).view.emb (ix2 a b : S256x56.Idx) : S256x56.Idx) = ix2 a b := by
    funext d
    apply Fin.ext
    match d with
    | ⟨0, _⟩ => show win0_2.index t 0 * 256 + 1 * a.val = a.val; rw [hi.1]; omega
    | ⟨1, _⟩ => show win0_2.index t 1 * 56 + 1 * b.val = b.val; rw [hi.2]; omega
  exact (congrArg (V m c main_v2 : Vec Ideal S256x56 .i8) h).trans (V_v2_apply m c a b)

/-- The block of packed weights at point `t`: the columns from `512 t` on. -/
theorem iblk3 (t : Fin cfg0.N) (k : Fin 3584) (j : Fin 512) (n : Fin 18432) (hn : n.val = 512 * t.val + j.val) :
    (iblk m c 3 t : Vec Ideal S3584x512 .i8) (ix2 k j) = (m ((c : Thread nD τ).loc main_arg3) : Vec Ideal S3584x18432 .i8) (ix2 k n) := by
  have hi := (idx_moving t).1
  unfold iblk
  rw [View.read_apply]
  have h : (((cfg0.win 3).blk t).view.emb (ix2 k j : S3584x512.Idx) : S3584x18432.Idx) = ix2 k n := by
    funext a
    apply Fin.ext
    match a with
    | ⟨0, _⟩ => show win0_3.index t 0 * 3584 + 1 * k.val = k.val; rw [hi.1]; omega
    | ⟨1, _⟩ => show win0_3.index t 1 * 512 + 1 * j.val = n.val; rw [hi.2]; omega
  exact (congrArg (V m c main_arg3 : Vec Ideal S3584x18432 .i8) h).trans (congrFun (V_main_arg3 m c) _)

/-- The block of weight scales at point `t`: the columns from `512 t` on. -/
theorem iblk4 (t : Fin cfg0.N) (k : Fin 56) (j : Fin 512) (n : Fin 18432) (hn : n.val = 512 * t.val + j.val) :
    (iblk m c 4 t : Vec Ideal S56x512 .f32) (ix2 k j) = (m ((c : Thread nD τ).loc main_arg4) : Vec Ideal S56x18432 .f32) (ix2 k n) := by
  have hi := (idx_moving t).2
  unfold iblk
  rw [View.read_apply]
  have h : (((cfg0.win 4).blk t).view.emb (ix2 k j : S56x512.Idx) : S56x18432.Idx) = ix2 k n := by
    funext a
    apply Fin.ext
    match a with
    | ⟨0, _⟩ => show win0_4.index t 0 * 56 + 1 * k.val = k.val; rw [hi.1]; omega
    | ⟨1, _⟩ => show win0_4.index t 1 * 512 + 1 * j.val = n.val; rw [hi.2]; omega
  exact (congrArg (V m c main_arg4 : Vec Ideal S56x18432 .f32) h).trans (congrFun (V_main_arg4 m c) _)

/-- The unpacked activations, off the arrays the kernel is given. -/
def given : Vec Ideal S256x7168 .bf16 :=
  acts (fun y => (m ((c : Thread nD τ).loc main_arg0) : Vec Ideal S1x256x3584 .i8) (ix3 0 (y 0) (y 1)))
    (fun y => (m ((c : Thread nD τ).loc main_arg1) : Vec Ideal S1x256x56 .f32) (ix3 0 (y 0) (y 1)))
    (fun y => (m ((c : Thread nD τ).loc main_arg2) : Vec Ideal S1x256x56 .i8) (ix3 0 (y 0) (y 1)))

/-- At every point the unpacked activations off the windows are those off the given arrays. -/
theorem acts_iblk (t : Fin cfg0.N) : acts (iblk m c 0 t) (iblk m c 1 t) (iblk m c 2 t) = given m c := by
  unfold given acts A
  funext y
  exact congr (congr (congr (congrArg act (iblk0 m c t _ _)) (iblk2 m c t _ _)) (iblk1 m c t _ _)) rfl

/-- After the first point: the block stored there, and the unpacked activations in the scratch. -/
theorem outs_first (t : Fin cfg0.N) (h0 : t.val % 36 = 0) :
    outsAt0 m c t.val t.isLt = (block (F := Ideal) (tileOf (iblk m c 3 t) (iblk m c 4 t)) (actsOf (given m c)), given m c) := by
  rw [outsAt0_A m c t h0, block_A, scratch_A, acts_iblk]

/-- After a later point: the block stored there, the scratch as the point before left it. -/
theorem outs_later (t : Fin cfg0.N) (h0 : ¬t.val % 36 = 0)
    (hs : (outsAt0 m c (t.val - 1) (Nat.lt_of_le_of_lt (Nat.sub_le _ _) t.isLt)).2 = given m c) :
    outsAt0 m c t.val t.isLt = (block (F := Ideal) (tileOf (iblk m c 3 t) (iblk m c 4 t)) (actsOf (given m c)), given m c) := by
  rw [outsAt0_B m c t h0, block_B, hs]
  rfl

/-- After every point: the block stored there, and the unpacked activations still in the scratch. -/
theorem outs : ∀ (n : ℕ) (hn : n < cfg0.N),
    outsAt0 m c n hn = (block (F := Ideal) (tileOf (iblk m c 3 ⟨n, hn⟩) (iblk m c 4 ⟨n, hn⟩)) (actsOf (given m c)), given m c)
  | 0, hn => outs_first m c ⟨0, hn⟩ rfl
  | n + 1, hn => by
    have hN : cfg0.N = 36 := N_0
    have hB : ¬(⟨n + 1, hn⟩ : Fin cfg0.N).val % 36 = 0 := by dsimp only; omega
    exact outs_later m c ⟨n + 1, hn⟩ hB (congrArg Prod.snd (outs n (Nat.lt_of_succ_lt hn)))

/-- One element of the result: the sum over all columns of activation times weight. -/
def total (a0 : Vec Ideal S1x256x3584 .i8) (a1 : Vec Ideal S1x256x56 .f32) (a2 : Vec Ideal S1x256x56 .i8)
    (a3 : Vec Ideal S3584x18432 .i8) (a4 : Vec Ideal S56x18432 .f32) (r : Fin 256) (n : Fin 18432) : EReal :=
  ∑ k : Fin 7168,
    act (a0 (ix3 0 r ⟨k.val / 2, by omega⟩)) (a2 (ix3 0 r ⟨k.val / 128, by omega⟩)) (a1 (ix3 0 r ⟨k.val / 128, by omega⟩)) (k.val % 2)
      * wgt (a3 (ix2 ⟨k.val / 2, by omega⟩ n)) (a4 (ix2 ⟨k.val / 128, by omega⟩ n)) (k.val % 2)

/-- What the kernel's array of results ends holding, at row `r` and column `n`. -/
theorem G5_apply (r : Fin 256) (n : Fin 18432) :
    (G5 m c : Vec Ideal S256x18432 .bf16) (ix2 r n)
      = total (m ((c : Thread nD τ).loc main_arg0)) (m ((c : Thread nD τ).loc main_arg1)) (m ((c : Thread nD τ).loc main_arg2))
          (m ((c : Thread nD τ).loc main_arg3)) (m ((c : Thread nD τ).loc main_arg4)) r n := by
  have hN : cfg0.N = 36 := N_0
  have hpt : pt5Of (ix2 r n : S256x18432.Idx) = n.val / 512 := by
    show 36 * (r.val / 256 - 0) + 1 * (n.val / 512 - 0) = n.val / 512
    omega
  have hlt : pt5Of (ix2 r n : S256x18432.Idx) < cfg0.N := by rw [hpt, hN]; omega
  have hloc : loc5Of (ix2 r n : S256x18432.Idx) = ix2 r ⟨n.val % 512, Nat.mod_lt _ (by decide)⟩ := by
    funext a
    match a with
    | ⟨0, _⟩ => exact Fin.ext (Nat.mod_eq_of_lt r.isLt)
    | ⟨1, _⟩ => rfl
  have hacc := (outsAt0_sweep m c _ hlt).symm.trans (outs m c _ hlt)
  unfold G5
  refine (dif_pos hlt).trans ?_
  refine (congrArg (fun p : Vec Ideal S256x512 .bf16 × Vec Ideal S256x7168 .bf16 => p.1 (loc5Of (ix2 r n))) hacc).trans ?_
  show block (F := Ideal) _ _ (loc5Of (ix2 r n)) = _
  rw [hloc]
  refine (block_acts _ _ _ _ _ _ _).trans (Finset.sum_congr rfl fun k _ => congrArg _ ?_)
  unfold W
  rw [iblk3 m c ⟨_, hlt⟩ _ _ n (by show n.val = 512 * pt5Of (ix2 r n : S256x18432.Idx) + n.val % 512; rw [hpt]; omega),
    iblk4 m c ⟨_, hlt⟩ _ _ n (by show n.val = 512 * pt5Of (ix2 r n : S256x18432.Idx) + n.val % 512; rw [hpt]; omega)]

end Cert.KernelIdeal.Final

end
-- ==== Proof.Reference.lean ====
/-
  The reference's result, element by element.
-/
module

public import proofs.«01_k».proof.Proof.Final
public import proofs.«01_k».proof.Proof.Gen.ReferenceIdeal.Run
public import Idealize.ShloMosaic.Lib.Pointwise.Tactic
public import Idealize.ShloMosaic.Lib.Pointwise.Reshape
public import Idealize.ShloMosaic.Lib.Pointwise.Contract
public import Idealize.ShloMosaic.Lib.Pointwise.Select
public import Idealize.ShloMosaic.Lib.Pointwise.Elementwise
public import Idealize.ShloMosaic.Lib.Pointwise.Sums

@[expose] public section

set_option maxRecDepth 16384

noncomputable section

namespace Cert.ReferenceIdeal.Element

open Cert.ReferenceIdeal Cert.ReferenceIdeal.Gen Idealize.ShloMosaic
open Cert.Math

/-- The words of packed activations, less the zero points, times the scales: both halves of the reference do this. -/
def scaledActs (w : Vec Ideal S1x256x3584 .i32) (x1 : Vec Ideal S1x256x56 .f32) (x2 : Vec Ideal S1x256x56 .i8) : Vec Ideal S1x256x3584 .bf16 :=
  shapeCast _ (mulf (sitofp .bf16 (subi (shapeCast _ w shapeCasts_S1x256x3584_S1x256x56x64) (broadcastInDim S1x256x56x64 ![0, 1, 2, 3] bcast_S1x256x56x1_S1x256x56x64_0_1_2_3 (broadcastInDim S1x256x56x1 ![0, 1, 2] bcast_S1x256x56_S1x256x56x1_0_1_2 (extui 32 x2 natLt_8_32))))) (broadcastInDim S1x256x56x64 ![0, 1, 2, 3] bcast_S1x256x56x1_S1x256x56x64_0_1_2_3 (broadcastInDim S1x256x56x1 ![0, 1, 2] bcast_S1x256x56_S1x256x56x1_0_1_2 (truncf (F := Ideal) .bf16 x1 bitsLt_bf16_f32)))) shapeCasts_S1x256x56x64_S1x256x3584

/-- The words of four-bit weights, eight and above brought down by sixteen, times the scales. -/
def scaledWgts (w : Vec Ideal S3584x18432 .i32) (x4 : Vec Ideal S56x18432 .f32) : Vec Ideal S3584x18432 .bf16 :=
  shapeCast _ (mulf (shapeCast _ (sitofp .bf16 (select (cmpi .sge w (broadcastInDim S3584x18432 ![] bcast_S_S3584x18432 (constantI S_ 32 8#32))) (subi w (broadcastInDim S3584x18432 ![] bcast_S_S3584x18432 (constantI S_ 32 16#32))) w)) shapeCasts_S3584x18432_S56x64x18432) (broadcastInDim S56x64x18432 ![0, 1, 2] bcast_S56x1x18432_S56x64x18432_0_1_2 (broadcastInDim S56x1x18432 ![0, 2] bcast_S56x18432_S56x1x18432_0_2 (truncf (F := Ideal) .bf16 x4 bitsLt_bf16_f32)))) shapeCasts_S56x64x18432_S3584x18432

/-- The low four bits of each byte of activations. -/
def lowActs (x0 : Vec Ideal S1x256x3584 .i8) : Vec Ideal S1x256x3584 .i32 :=
  andi (extui 32 x0 natLt_8_32) (broadcastInDim S1x256x3584 ![] bcast_S_S1x256x3584 (constantI S_ 32 15#32))

/-- The high four bits of each byte of activations. -/
def highActs (x0 : Vec Ideal S1x256x3584 .i8) : Vec Ideal S1x256x3584 .i32 :=
  Host.shrsi (extui 32 x0 natLt_8_32) (broadcastInDim S1x256x3584 ![] bcast_S_S1x256x3584 (constantI S_ 32 4#32))

/-- The low four bits of each byte of weights. -/
def lowWgts (x3 : Vec Ideal S3584x18432 .i8) : Vec Ideal S3584x18432 .i32 :=
  andi (extui 32 x3 natLt_8_32) (broadcastInDim S3584x18432 ![] bcast_S_S3584x18432 (constantI S_ 32 15#32))

/-- The high four bits of each byte of weights. -/
def highWgts (x3 : Vec Ideal S3584x18432 .i8) : Vec Ideal S3584x18432 .i32 :=
  Host.shrsi (extui 32 x3 natLt_8_32) (broadcastInDim S3584x18432 ![] bcast_S_S3584x18432 (constantI S_ 32 4#32))

/-- The reference's result. -/
def result (x0 : Vec Ideal S1x256x3584 .i8) (x1 : Vec Ideal S1x256x56 .f32) (x2 : Vec Ideal S1x256x56 .i8)
    (x3 : Vec Ideal S3584x18432 .i8) (x4 : Vec Ideal S56x18432 .f32) : Vec Ideal S256x18432 .bf16 :=
  shapeCast _ (truncf (F := Ideal) .bf16 (addf
    (Host.dotGeneral (φ₁ := .bf16) (φ₂ := .bf16) dot_S1x256x3584_S3584x18432_S1x256x18432_2_0_01_1_n_n none (scaledActs (lowActs x0) x1 x2) (scaledWgts (lowWgts x3) x4))
    (Host.dotGeneral (φ₁ := .bf16) (φ₂ := .bf16) dot_S1x256x3584_S3584x18432_S1x256x18432_2_0_01_1_n_n none (scaledActs (highActs x0) x1 x2) (scaledWgts (highWgts x3) x4)))
    bitsLt_bf16_f32) shapeCasts_S1x256x18432_S256x18432

/-- A word read as a signed four-bit number: eight and above brought down by sixteen. -/
def centred (w : BitVec 32) : BitVec 32 := Scalar.select (IntOp.cmpi .sge w 8#32) (IntOp.subi w 16#32) w

/-- The low four bits of a byte, read as a signed number. -/
theorem centred_low (b : BitVec 8) : (centred (b.setWidth 32 &&& 15#32)).toInt = signed b 0 := by
  have key : ∀ b : BitVec 8, (centred (b.setWidth 32 &&& 15#32)).toInt = signed b 0 := by
    unfold centred signed code
    decide +kernel
  exact key b

/-- The high four bits of a byte, read as a signed number. -/
theorem centred_high (b : BitVec 8) : (centred ((b.setWidth 32).sshiftRight 4)).toInt = signed b 1 := by
  have key : ∀ b : BitVec 8, (centred ((b.setWidth 32).sshiftRight 4)).toInt = signed b 1 := by
    unfold centred signed code
    decide +kernel
  exact key b

/-- A scaled activation at an index: the word less the group's zero point, times the group's scale. -/
theorem scaledActs_apply (w : Vec Ideal S1x256x3584 .i32) (x1 : Vec Ideal S1x256x56 .f32) (x2 : Vec Ideal S1x256x56 .i8)
    (r : Fin 256) (k : Fin 3584) :
    scaledActs w x1 x2 (ix3 0 r k) = (((w (ix3 0 r k) - (x2 (ix3 0 r ⟨k.val / 64, by omega⟩) : BitVec 8).setWidth 32 : BitVec 32).toInt : ℝ) : EReal) * x1 (ix3 0 r ⟨k.val / 64, by omega⟩) := by
  unfold scaledActs
  pointwise
  rfl

/-- A scaled weight at an index: the word as a signed number, times the group's scale. -/
theorem scaledWgts_apply (w : Vec Ideal S3584x18432 .i32) (x4 : Vec Ideal S56x18432 .f32) (k : Fin 3584) (n : Fin 18432) :
    scaledWgts w x4 (ix2 k n) = (((centred (w (ix2 k n))).toInt : ℝ) : EReal) * x4 (ix2 ⟨k.val / 64, by omega⟩ n) := by
  unfold scaledWgts
  pointwise
  rfl

/-- The activations at even columns. -/
theorem lowActs_apply (x0 : Vec Ideal S1x256x3584 .i8) (x1 : Vec Ideal S1x256x56 .f32) (x2 : Vec Ideal S1x256x56 .i8)
    (r : Fin 256) (k : Fin 3584) :
    scaledActs (lowActs x0) x1 x2 (ix3 0 r k)
      = act (x0 (ix3 0 r k)) (x2 (ix3 0 r ⟨k.val / 64, by omega⟩)) (x1 (ix3 0 r ⟨k.val / 64, by omega⟩)) 0 := by
  have h : lowActs x0 (ix3 0 r k) = ((x0 (ix3 0 r k) : BitVec 8).setWidth 32 &&& 15#32 : BitVec 32) := by
    unfold lowActs
    pointwise
    rfl
  rw [scaledActs_apply, h, toInt_centred_low]
  rfl

/-- The activations at odd columns. -/
theorem highActs_apply (x0 : Vec Ideal S1x256x3584 .i8) (x1 : Vec Ideal S1x256x56 .f32) (x2 : Vec Ideal S1x256x56 .i8)
    (r : Fin 256) (k : Fin 3584) :
    scaledActs (highActs x0) x1 x2 (ix3 0 r k)
      = act (x0 (ix3 0 r k)) (x2 (ix3 0 r ⟨k.val / 64, by omega⟩)) (x1 (ix3 0 r ⟨k.val / 64, by omega⟩)) 1 := by
  have h : highActs x0 (ix3 0 r k) = (((x0 (ix3 0 r k) : BitVec 8).setWidth 32).sshiftRight 4 : BitVec 32) := by
    unfold highActs
    pointwise
    rfl
  rw [scaledActs_apply, h, toInt_centred_high]
  rfl

/-- The weights at even rows. -/
theorem lowWgts_apply (x3 : Vec Ideal S3584x18432 .i8) (x4 : Vec Ideal S56x18432 .f32) (k : Fin 3584) (n : Fin 18432) :
    scaledWgts (lowWgts x3) x4 (ix2 k n) = wgt (x3 (ix2 k n)) (x4 (ix2 ⟨k.val / 64, by omega⟩ n)) 0 := by
  have h : lowWgts x3 (ix2 k n) = ((x3 (ix2 k n) : BitVec 8).setWidth 32 &&& 15#32 : BitVec 32) := by
    unfold lowWgts
    pointwise
    rfl
  rw [scaledWgts_apply, h, centred_low]
  rfl

/-- The weights at odd rows. -/
theorem highWgts_apply (x3 : Vec Ideal S3584x18432 .i8) (x4 : Vec Ideal S56x18432 .f32) (k : Fin 3584) (n : Fin 18432) :
    scaledWgts (highWgts x3) x4 (ix2 k n) = wgt (x3 (ix2 k n)) (x4 (ix2 ⟨k.val / 64, by omega⟩ n)) 1 := by
  have h : highWgts x3 (ix2 k n) = (((x3 (ix2 k n) : BitVec 8).setWidth 32).sshiftRight 4 : BitVec 32) := by
    unfold highWgts
    pointwise
    rfl
  rw [scaledWgts_apply, h, centred_high]
  rfl

/-- One element of the reference's result: the two sums over the packed axis. -/
theorem result_sums (x0 : Vec Ideal S1x256x3584 .i8) (x1 : Vec Ideal S1x256x56 .f32) (x2 : Vec Ideal S1x256x56 .i8)
    (x3 : Vec Ideal S3584x18432 .i8) (x4 : Vec Ideal S56x18432 .f32) (r : Fin 256) (n : Fin 18432) :
    result x0 x1 x2 x3 x4 (ix2 r n)
      = (∑ k : Fin 3584, scaledActs (lowActs x0) x1 x2 (ix3 0 r k) * scaledWgts (lowWgts x3) x4 (ix2 k n))
        + ∑ k : Fin 3584, scaledActs (highActs x0) x1 x2 (ix3 0 r k) * scaledWgts (highWgts x3) x4 (ix2 k n) := by
  unfold result
  generalize scaledActs (lowActs x0) x1 x2 = a
  generalize scaledActs (highActs x0) x1 x2 = a'
  generalize scaledWgts (lowWgts x3) x4 = b
  generalize scaledWgts (highWgts x3) x4 = b'
  pointwise
  trace_state
  try rfl

/-- One element of the reference's result is the sum over all columns of activation times weight. -/
theorem result_apply (x0 : Vec Ideal S1x256x3584 .i8) (x1 : Vec Ideal S1x256x56 .f32) (x2 : Vec Ideal S1x256x56 .i8)
    (x3 : Vec Ideal S3584x18432 .i8) (x4 : Vec Ideal S56x18432 .f32) (r : Fin 256) (n : Fin 18432) :
    result x0 x1 x2 x3 x4 (ix2 r n) = Cert.KernelIdeal.Final.total x0 x1 x2 x3 x4 r n := by
  rw [result_sums]
  unfold Cert.KernelIdeal.Final.total
  rw [← sum_halves]
  refine congr (congrArg _ (Finset.sum_congr rfl fun k _ => ?_)) (Finset.sum_congr rfl fun k _ => ?_)
  · have h2 : (⟨2 * k.val / 2, by omega⟩ : Fin 3584) = k := Fin.ext (by show 2 * k.val / 2 = k.val; omega)
    have h64 : (⟨2 * k.val / 128, by omega⟩ : Fin 56) = ⟨k.val / 64, by omega⟩ := Fin.ext (by show 2 * k.val / 128 = k.val / 64; omega)
    have h1 : 2 * k.val % 2 = 0 := by omega
    rw [lowActs_apply, lowWgts_apply]
    simp only [h2, h64, h1]
  · have h2 : (⟨(2 * k.val + 1) / 2, by omega⟩ : Fin 3584) = k := Fin.ext (by show (2 * k.val + 1) / 2 = k.val; omega)
    have h64 : (⟨(2 * k.val + 1) / 128, by omega⟩ : Fin 56) = ⟨k.val / 64, by omega⟩ := Fin.ext (by show (2 * k.val + 1) / 128 = k.val / 64; omega)
    have h1 : (2 * k.val + 1) % 2 = 1 := by omega
    rw [highActs_apply, highWgts_apply]
    simp only [h2, h64, h1]

end Cert.ReferenceIdeal.Element

end
-- ==== Proof.Joined.lean ====
/-
  The kernel's and the reference's results are equal, element by element, from memories that agree on the arguments.
-/
module

public import proofs.«01_k».proof.Proof.Final
public import proofs.«01_k».proof.Proof.Reference
public import Idealize.ShloMosaic.Lib.Quiescent

@[expose] public section

set_option maxRecDepth 16384

noncomputable section

namespace Cert.Joined

open Idealize.ShloMosaic Idealize.ShloMosaic.TcCoe Idealize.SL.Sem

/-- Two matrices equal at every row and column are equal. -/
theorem ext_rows {f g : Vec Ideal Cert.KernelIdeal.S256x18432 .bf16} (h : ∀ (r : Fin 256) (n : Fin 18432), f (ix2 r n) = g (ix2 r n)) : f = g := by
  funext y
  rw [eq_ix2 y]
  exact h _ _

/-- The kernel's result is the reference's, off the arrays the kernel is given. -/
theorem kernel_eq_reference (m : (ℓ : Loc Cert.KernelIdeal.nD Cert.KernelIdeal.τ Cert.KernelIdeal.sig) → Buf (Elt Ideal) ℓ)
    (c : Dev Cert.KernelIdeal.nD) :
    (Cert.KernelIdeal.Value.G5 m c : Vec Ideal Cert.KernelIdeal.S256x18432 .bf16)
      = Cert.ReferenceIdeal.Element.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) :=
  ext_rows fun r n => (Cert.KernelIdeal.Final.G5_apply m c r n).trans (Cert.ReferenceIdeal.Element.result_apply _ _ _ _ _ r n).symm

/-- The reference's result is the kernel's, when the two memories agree on the five arguments. -/
theorem reference_eq_kernel (m' : (ℓ : Loc Cert.ReferenceIdeal.nD Cert.ReferenceIdeal.τ Cert.ReferenceIdeal.sig) → Buf (Elt Ideal) ℓ)
    (c' : Dev Cert.ReferenceIdeal.nD)
    (m : (ℓ : Loc Cert.KernelIdeal.nD Cert.KernelIdeal.τ Cert.KernelIdeal.sig) → Buf (Elt Ideal) ℓ) (c : Dev Cert.KernelIdeal.nD)
    (h0 : m' ((c'.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c'.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c'.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c'.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c'.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Element.result (m' ((c'.tc : Thread Cert.ReferenceIdeal.nD Cert.ReferenceIdeal.τ).loc Cert.ReferenceIdeal.main_arg0))
          (m' ((c'.tc : Thread Cert.ReferenceIdeal.nD Cert.ReferenceIdeal.τ).loc Cert.ReferenceIdeal.main_arg1))
          (m' ((c'.tc : Thread Cert.ReferenceIdeal.nD Cert.ReferenceIdeal.τ).loc Cert.ReferenceIdeal.main_arg2))
          (m' ((c'.tc : Thread Cert.ReferenceIdeal.nD Cert.ReferenceIdeal.τ).loc Cert.ReferenceIdeal.main_arg3))
          (m' ((c'.tc : Thread Cert.ReferenceIdeal.nD Cert.ReferenceIdeal.τ).loc Cert.ReferenceIdeal.main_arg4))
      = (Cert.KernelIdeal.Value.G5 m c : Vec Ideal Cert.KernelIdeal.S256x18432 .bf16) := by
  rw [h0, h1, h2, h3, h4]
  exact (kernel_eq_reference m c).symm

end Cert.Joined

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Joined
public import Idealize.ShloMosaic.Adequacy
public import Idealize.ShloMosaic.Init

@[expose] public section

noncomputable section

namespace Cert.Proof

open Idealize.ShloMosaic Idealize.SL.Sem Cert.Kernel

/-- Everything the certificate claims: both kernels and the reference run, leave their arguments unchanged and every
    semaphore at zero, and over the extended reals the kernel's result is the reference's. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => (θ_run _ _ _).mono (fun r h => ⟨fun c => (h c).2, sem_eq_zero_of_no_sems rfl _⟩) (Cert.ReferenceIdeal.Value.run m ρ),
    trivial, ?_⟩
  intro m ρ m' ρ' _ hag
  refine ⟨fun c => Cert.KernelIdeal.Value.G5 m c, Cert.KernelIdeal.Value.run m ρ,
    (θ_run _ _ _).mono (fun r h c => ⟨?_, (h c).2⟩) (Cert.ReferenceIdeal.Value.run m' ρ')⟩
  exact (h c).1.trans (Cert.Joined.reference_eq_kernel m' c m c (hag c).1 (hag c).2.1 (hag c).2.2.1 (hag c).2.2.2.1 (hag c).2.2.2.2)⟩

end Cert.Proof

end
